-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S1 : Shape := ⟨1, ![1]⟩
abbrev S16384x2048 : Shape := ⟨2, ![16384, 2048]⟩
abbrev S1x1 : Shape := ⟨2, ![1, 1]⟩
abbrev S2048x16384 : Shape := ⟨2, ![2048, 16384]⟩
abbrev S512x2048 : Shape := ⟨2, ![512, 2048]⟩
abbrev S2048x512 : Shape := ⟨2, ![2048, 512]⟩
abbrev S1x2048 : Shape := ⟨2, ![1, 2048]⟩
abbrev S2048 : Shape := ⟨1, ![2048]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S1, .f32⟩
  | .hbm, ⟨2, _⟩ => ⟨S16384x2048, .f32⟩
  | .hbm, ⟨3, _⟩ => ⟨S1x1, .f32⟩
  | .hbm, ⟨4, _⟩ => ⟨S16384x2048, .fp8e4m3⟩
  | .hbm, ⟨5, _⟩ => ⟨S2048x16384, .fp8e4m3⟩
  | .hbm, ⟨6, _⟩ => ⟨S1x1, .f32⟩
  | .hbm, ⟨7, _⟩ => ⟨S1x1, .f32⟩
  | .local _ .vmem, ⟨0, _⟩ => ⟨S1x1, .f32⟩
  | .local _ .vmem, ⟨1, _⟩ => ⟨S512x2048, .f32⟩
  | .local _ .vmem, ⟨2, _⟩ => ⟨S512x2048, .f32⟩
  | .local _ .vmem, ⟨3, _⟩ => ⟨S512x2048, .fp8e4m3⟩
  | .local _ .vmem, ⟨4, _⟩ => ⟨S512x2048, .fp8e4m3⟩
  | .local _ .vmem, ⟨5, _⟩ => ⟨S2048x512, .fp8e4m3⟩
  | .local _ .vmem, ⟨6, _⟩ => ⟨S2048x512, .fp8e4m3⟩
  | .local _ .vmem, ⟨7, _⟩ => ⟨S1x1, .f32⟩
  | .local _ .vmem, ⟨8, _⟩ => ⟨S1x1, .f32⟩
  | .local _ .vmem, ⟨9, _⟩ => ⟨S1x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v104 : BitVec 1 := Scalar.cmpi .eq arg0 c31_i32
  let v105 : BitVec 32 := Scalar.extui v104
  let c0_i32_26 : BitVec 32 := 0#32
  let v106 : BitVec 1 := Scalar.cmpi .ne v105 c0_i32_26
  v106

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4x4096x2048 : Shape := ⟨3, ![4, 4096, 2048]⟩
abbrev S1 : Shape := ⟨1, ![1]⟩
abbrev S1x1 : Shape := ⟨2, ![1, 1]⟩
abbrev S16384x2048 : Shape := ⟨2, ![16384, 2048]⟩
abbrev S2048x16384 : Shape := ⟨2, ![2048, 16384]⟩
abbrev S1x16384x2048 : Shape := ⟨3, ![1, 16384, 2048]⟩
abbrev S1x1x1 : Shape := ⟨3, ![1, 1, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S1, .f32⟩
  | .hbm, ⟨2, _⟩ => ⟨S1x1, .f32⟩
  | .hbm, ⟨3, _⟩ => ⟨S16384x2048, .f32⟩
  | .hbm, ⟨4, _⟩ => ⟨S16384x2048, .fp8e4m3⟩
  | .hbm, ⟨5, _⟩ => ⟨S2048x16384, .fp8e4m3⟩
  | .hbm, ⟨6, _⟩ => ⟨S1x1, .f32⟩
  | .hbm, ⟨7, _⟩ => ⟨S1x1, .f32⟩
  | .local _ .vmem, ⟨0, _⟩ => ⟨S1x1, .f32⟩
  | .local _ .vmem, ⟨1, _⟩ => ⟨S16384x2048, .f32⟩
  | .local _ .vmem, ⟨2, _⟩ => ⟨S16384x2048, .fp8e4m3⟩
  | .local _ .vmem, ⟨3, _⟩ => ⟨S2048x16384, .fp8e4m3⟩
  | .local _ .vmem, ⟨4, _⟩ => ⟨S1x1, .f32⟩
  | .local _ .vmem, ⟨5, _⟩ => ⟨S1x1, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/- What one grid point of the kernel leaves in its buffers, as values of the blocks it reads.

   Every point writes the block of codes and its transpose; the first point starts the running column maximum, the later
   ones raise it; the last point also reduces it to the two scalar results. -/
module

public import proofs.«01_k».proof.Proof.Gen.KernelIdeal.Value

@[expose] public section

noncomputable section

namespace Cert.KernelIdeal.Quant

open Cert.KernelIdeal Cert.KernelIdeal.Gen Idealize.ShloMosaic Idealize.ShloMosaic.TcCoe Idealize.SL.Sem

variable {F : FTy → Type} [FloatOps F]

/-- The zero offset of a whole rank-two block. -/
theorem hz : (![0, 0] : Fin 2 → Nat) = fun _ => 0 := funext fun a => by fin_cases a <;> rfl

/-- A block of codes: the input block times the inverse scale, clipped and cast. -/
def codes (s : Vec F S1x1 .f32) (x : Vec F S512x2048 .f32) : Vec F S512x2048 .fp8e4m3 :=
  k0_pay1 (k0_pay16 (k0_pay11 s) (k0_pay12 s) (k0_pay13 s) (k0_pay14 s) x) (Scalar.ofBits .f32 0x43E00000#32) k0_pay17

/-- Its transpose. -/
def codesT (s : Vec F S1x1 .f32) (x : Vec F S512x2048 .f32) : Vec F S2048x512 .fp8e4m3 :=
  k0_pay2 (k0_pay16 (k0_pay11 s) (k0_pay12 s) (k0_pay13 s) (k0_pay14 s) x) (Scalar.ofBits .f32 0x43E00000#32) k0_pay17

/-- The scale for the next step, from the running column maximum. -/
def next (r : Vec F S1x2048 .f32) : Vec F S1x1 .f32 := k0_pay10 (k0_pay6 r) (k0_pay7 r) (k0_pay8 r) (k0_pay9 r)

section
variable (c : Dev nD) (i : grid0.Coords) (a1 : Memref sig .tc .vmem S1x1 .f32) (h1 : a1.IsWhole)
  (a2 : Memref sig .tc .vmem S512x2048 .f32) (h2 : a2.IsWhole) (a3 : Memref sig .tc .vmem S512x2048 .fp8e4m3) (h3 : a3.IsWhole)
  (a4 : Memref sig .tc .vmem S2048x512 .fp8e4m3) (h4 : a4.IsWhole) (a5 : Memref sig .tc .vmem S1x1 .f32) (h5 : a5.IsWhole)
  (a6 : Memref sig .tc .vmem S1x1 .f32) (h6 : a6.IsWhole) (a7 : Memref sig .tc .vmem S1x2048 .f32) (h7 : a7.IsWhole)
  (s : Vec F S1x1 .f32) (x : Vec F S512x2048 .f32) (r : Vec F S1x2048 .f32)

/-- The first point's block of codes. -/
theorem out_A_2 (hc0 : cond0_0 i) (hc1 : ¬cond0_1 i) (hc2 : ¬cond0_2 i) :
    out0_A_2 c i a1 h1 a2 h2 a3 h3 a4 h4 a5 h5 a6 h6 a7 h7 hc0 hc1 hc2 s x = codes s x := by
  unfold out0_A_2
  rw [View.read_writes_eq_canon _ _ _ (cover0_A_2 c i a1 h1 a2 h2 a3 h3 a4 h4 a5 h5 a6 h6 a7 h7 hc0 hc1 hc2 s x)]
  unfold kernelRun0_A
  dsimp only
  sl_unfold_words
  rw [View.canon_unit_zero hz]
  unfold codes
  simp only [View.readAt_eq_ld, h1.read_unread, h2.read_unread, View.ld_unit_zero (S := S1x1) hz, View.ld_unit_zero (S := S512x2048) hz]

/-- The first point's transposed block. -/
theorem out_A_3 (hc0 : cond0_0 i) (hc1 : ¬cond0_1 i) (hc2 : ¬cond0_2 i) :
    out0_A_3 c i a1 h1 a2 h2 a3 h3 a4 h4 a5 h5 a6 h6 a7 h7 hc0 hc1 hc2 s x = codesT s x := by
  unfold out0_A_3
  rw [View.read_writes_eq_canon _ _ _ (cover0_A_3 c i a1 h1 a2 h2 a3 h3 a4 h4 a5 h5 a6 h6 a7 h7 hc0 hc1 hc2 s x)]
  unfold kernelRun0_A
  dsimp only
  sl_unfold_words
  rw [View.canon_unit_zero hz]
  unfold codesT
  simp only [View.readAt_eq_ld, h1.read_unread, h2.read_unread, View.ld_unit_zero (S := S1x1) hz, View.ld_unit_zero (S := S512x2048) hz]

/-- The first point starts the running column maximum with its own block's. -/
theorem sout_A (hc0 : cond0_0 i) (hc1 : ¬cond0_1 i) (hc2 : ¬cond0_2 i) :
    sout0_A_0 c i a1 h1 a2 h2 a3 h3 a4 h4 a5 h5 a6 h6 a7 h7 hc0 hc1 hc2 s x = k0_pay4 (k0_pay15 x) := by
  unfold sout0_A_0
  rw [View.read_writes_eq_canon _ _ _ (scover0_A_0 c i a1 h1 a2 h2 a3 h3 a4 h4 a5 h5 a6 h6 a7 h7 hc0 hc1 hc2 s x)]
  unfold kernelRun0_A
  dsimp only
  sl_unfold_words
  rw [View.canon_unit_zero hz]
  simp only [View.readAt_eq_ld, h2.read_unread, View.ld_unit_zero (S := S512x2048) hz]

/-- A middle point's block of codes. -/
theorem out_B_2 (hc0 : ¬cond0_0 i) (hc1 : cond0_1 i) (hc2 : ¬cond0_2 i) :
    out0_B_2 c i a1 h1 a2 h2 a3 h3 a4 h4 a5 h5 a6 h6 a7 h7 hc0 hc1 hc2 s x r = codes s x := by
  unfold out0_B_2
  rw [View.read_writes_eq_canon _ _ _ (cover0_B_2 c i a1 h1 a2 h2 a3 h3 a4 h4 a5 h5 a6 h6 a7 h7 hc0 hc1 hc2 s x r)]
  unfold kernelRun0_B
  dsimp only
  sl_unfold_words
  rw [View.canon_unit_zero hz]
  unfold codes
  simp only [View.readAt_eq_ld, h1.read_unread, h2.read_unread, View.ld_unit_zero (S := S1x1) hz, View.ld_unit_zero (S := S512x2048) hz]

/-- A middle point's transposed block. -/
theorem out_B_3 (hc0 : ¬cond0_0 i) (hc1 : cond0_1 i) (hc2 : ¬cond0_2 i) :
    out0_B_3 c i a1 h1 a2 h2 a3 h3 a4 h4 a5 h5 a6 h6 a7 h7 hc0 hc1 hc2 s x r = codesT s x := by
  unfold out0_B_3
  rw [View.read_writes_eq_canon _ _ _ (cover0_B_3 c i a1 h1 a2 h2 a3 h3 a4 h4 a5 h5 a6 h6 a7 h7 hc0 hc1 hc2 s x r)]
  unfold kernelRun0_B
  dsimp only
  sl_unfold_words
  rw [View.canon_unit_zero hz]
  unfold codesT
  simp only [View.readAt_eq_ld, h1.read_unread, h2.read_unread, View.ld_unit_zero (S := S1x1) hz, View.ld_unit_zero (S := S512x2048) hz]

/-- A middle point raises the running column maximum by its block. -/
theorem sout_B (hc0 : ¬cond0_0 i) (hc1 : cond0_1 i) (hc2 : ¬cond0_2 i) :
    sout0_B_0 c i a1 h1 a2 h2 a3 h3 a4 h4 a5 h5 a6 h6 a7 h7 hc0 hc1 hc2 s x r = k0_pay5 (k0_pay15 x) r := by
  unfold sout0_B_0
  rw [View.read_writes_eq_canon _ _ _ (scover0_B_0 c i a1 h1 a2 h2 a3 h3 a4 h4 a5 h5 a6 h6 a7 h7 hc0 hc1 hc2 s x r)]
  unfold kernelRun0_B
  dsimp only
  sl_unfold_words
  rw [View.canon_unit_zero hz]
  simp only [View.readAt_eq_ld, h2.read_unread, h7.read_unread, View.ld_unit_zero (S := S512x2048) hz, View.ld_unit_zero (S := S1x2048) hz]

/-- The last point's block of codes. -/
theorem out_C_2 (hc0 : ¬cond0_0 i) (hc1 : cond0_1 i) (hc2 : cond0_2 i) :
    out0_C_2 c i a1 h1 a2 h2 a3 h3 a4 h4 a5 h5 a6 h6 a7 h7 hc0 hc1 hc2 s x r = codes s x := by
  unfold out0_C_2
  rw [View.read_writes_eq_canon _ _ _ (cover0_C_2 c i a1 h1 a2 h2 a3 h3 a4 h4 a5 h5 a6 h6 a7 h7 hc0 hc1 hc2 s x r)]
  unfold kernelRun0_C
  dsimp only
  sl_unfold_words
  rw [View.canon_unit_zero hz]
  unfold codes
  simp only [View.readAt_eq_ld, h1.read_unread, h2.read_unread, View.ld_unit_zero (S := S1x1) hz, View.ld_unit_zero (S := S512x2048) hz]

/-- The last point's transposed block. -/
theorem out_C_3 (hc0 : ¬cond0_0 i) (hc1 : cond0_1 i) (hc2 : cond0_2 i) :
    out0_C_3 c i a1 h1 a2 h2 a3 h3 a4 h4 a5 h5 a6 h6 a7 h7 hc0 hc1 hc2 s x r = codesT s x := by
  unfold out0_C_3
  rw [View.read_writes_eq_canon _ _ _ (cover0_C_3 c i a1 h1 a2 h2 a3 h3 a4 h4 a5 h5 a6 h6 a7 h7 hc0 hc1 hc2 s x r)]
  unfold kernelRun0_C
  dsimp only
  sl_unfold_words
  rw [View.canon_unit_zero hz]
  unfold codesT
  simp only [View.readAt_eq_ld, h1.read_unread, h2.read_unread, View.ld_unit_zero (S := S1x1) hz, View.ld_unit_zero (S := S512x2048) hz]

/-- The last point reduces the raised column maximum over its lanes. -/
theorem out_C_4 (hc0 : ¬cond0_0 i) (hc1 : cond0_1 i) (hc2 : cond0_2 i) :
    out0_C_4 c i a1 h1 a2 h2 a3 h3 a4 h4 a5 h5 a6 h6 a7 h7 hc0 hc1 hc2 s x r = k0_pay6 (k0_pay5 (k0_pay15 x) r) := by
  unfold out0_C_4
  rw [View.read_writes_eq_canon _ _ _ (cover0_C_4 c i a1 h1 a2 h2 a3 h3 a4 h4 a5 h5 a6 h6 a7 h7 hc0 hc1 hc2 s x r)]
  unfold kernelRun0_C
  dsimp only
  sl_unfold_words
  rw [View.canon_unit_zero hz, View.readCov_unit_zero (S := S1x2048) _ hz]
  simp only [View.readAt_eq_ld, h2.read_unread, h7.read_unread, View.ld_unit_zero (S := S512x2048) hz, View.ld_unit_zero (S := S1x2048) hz]

/-- And takes the next scale of it. -/
theorem out_C_5 (hc0 : ¬cond0_0 i) (hc1 : cond0_1 i) (hc2 : cond0_2 i) :
    out0_C_5 c i a1 h1 a2 h2 a3 h3 a4 h4 a5 h5 a6 h6 a7 h7 hc0 hc1 hc2 s x r = next (k0_pay5 (k0_pay15 x) r) := by
  unfold out0_C_5
  rw [View.read_writes_eq_canon _ _ _ (cover0_C_5 c i a1 h1 a2 h2 a3 h3 a4 h4 a5 h5 a6 h6 a7 h7 hc0 hc1 hc2 s x r)]
  unfold kernelRun0_C
  dsimp only
  sl_unfold_words
  rw [View.canon_unit_zero hz]
  unfold next
  simp only [View.readCov_unit_zero (S := S1x2048) _ hz]
  simp only [View.readAt_eq_ld, h2.read_unread, h7.read_unread, View.ld_unit_zero (S := S512x2048) hz, View.ld_unit_zero (S := S1x2048) hz]

/-- The last point's running column maximum. -/
theorem sout_C (hc0 : ¬cond0_0 i) (hc1 : cond0_1 i) (hc2 : cond0_2 i) :
    sout0_C_0 c i a1 h1 a2 h2 a3 h3 a4 h4 a5 h5 a6 h6 a7 h7 hc0 hc1 hc2 s x r = k0_pay5 (k0_pay15 x) r := by
  unfold sout0_C_0
  rw [View.read_writes_eq_canon _ _ _ (scover0_C_0 c i a1 h1 a2 h2 a3 h3 a4 h4 a5 h5 a6 h6 a7 h7 hc0 hc1 hc2 s x r)]
  unfold kernelRun0_C
  dsimp only
  sl_unfold_words
  rw [View.canon_unit_zero hz]
  simp only [View.readAt_eq_ld, h2.read_unread, h7.read_unread, View.ld_unit_zero (S := S512x2048) hz, View.ld_unit_zero (S := S1x2048) hz]

end

end Cert.KernelIdeal.Quant

end
-- ==== Proof.Arrays.lean ====
/- What the kernel's arrays hold after the run, in the values of its blocks: the codes point by point, and the two scalars
   from the running column maximum after the last point. -/
module

public import proofs.«01_k».proof.Proof.Block

@[expose] public section

noncomputable section

namespace Cert.KernelIdeal.Quant

open Cert.KernelIdeal Cert.KernelIdeal.Gen Cert.KernelIdeal.Value Idealize.ShloMosaic Idealize.ShloMosaic.TcCoe Idealize.SL.Sem

variable {F : FTy → Type} [FloatOps F]
variable (m : (ℓ : Loc nD τ sig) → Buf (Elt F) ℓ)

/-- The scale block at a point, at its type. -/
abbrev sblk (c : Dev nD) (t : Fin cfg0.N) : Vec F S1x1 .f32 := iblk m c 0 t

/-- The input block at a point, at its type. -/
abbrev xblk (c : Dev nD) (t : Fin cfg0.N) : Vec F S512x2048 .f32 := iblk m c 1 t

/-- The running column maximum after point `n`. -/
def colmax (c : Dev nD) : (n : ℕ) → n < cfg0.N → Vec F S1x2048 .f32
  | 0, h => k0_pay4 (k0_pay15 (xblk m c ⟨0, h⟩))
  | n + 1, h => k0_pay5 (k0_pay15 (xblk m c ⟨n + 1, h⟩)) (colmax c n (Nat.lt_of_succ_lt h))

/-- What the first point leaves. -/
theorem point_A (c : Dev nD) (t : Fin cfg0.N) (h0 : t.val % 32 = 0) (h1 : ¬1 ≤ t.val) (h2 : ¬t.val % 32 = 31) :
    (outsAt0 m c t.val t.isLt).1 = codes (sblk m c t) (xblk m c t)
    ∧ (outsAt0 m c t.val t.isLt).2.1 = codesT (sblk m c t) (xblk m c t)
    ∧ (outsAt0 m c t.val t.isLt).2.2.2.2 = k0_pay4 (k0_pay15 (xblk m c t)) := by
  rw [outsAt0_A m c t h0 h1 h2]
  dsimp only
  exact ⟨out_A_2 .., out_A_3 .., sout_A ..⟩

/-- What a middle point leaves, over the running maximum the point before left. -/
theorem point_B (c : Dev nD) (t : Fin cfg0.N) (h0 : ¬t.val % 32 = 0) (h1 : 1 ≤ t.val) (h2 : ¬t.val % 32 = 31) :
    (outsAt0 m c t.val t.isLt).1 = codes (sblk m c t) (xblk m c t)
    ∧ (outsAt0 m c t.val t.isLt).2.1 = codesT (sblk m c t) (xblk m c t)
    ∧ (outsAt0 m c t.val t.isLt).2.2.2.2 = k0_pay5 (k0_pay15 (xblk m c t))
        (outsAt0 m c (t.val - 1) (Nat.lt_of_le_of_lt (Nat.sub_le _ _) t.isLt)).2.2.2.2 := by
  rw [outsAt0_B m c t h0 h1 h2]
  dsimp only
  exact ⟨out_B_2 .., out_B_3 .., sout_B ..⟩

/-- What the last point leaves, the two scalars among it. -/
theorem point_C (c : Dev nD) (t : Fin cfg0.N) (h0 : ¬t.val % 32 = 0) (h1 : 1 ≤ t.val) (h2 : t.val % 32 = 31) :
    (outsAt0 m c t.val t.isLt).1 = codes (sblk m c t) (xblk m c t)
    ∧ (outsAt0 m c t.val t.isLt).2.1 = codesT (sblk m c t) (xblk m c t)
    ∧ (outsAt0 m c t.val t.isLt).2.2.1 = k0_pay6 (k0_pay5 (k0_pay15 (xblk m c t))
        (outsAt0 m c (t.val - 1) (Nat.lt_of_le_of_lt (Nat.sub_le _ _) t.isLt)).2.2.2.2)
    ∧ (outsAt0 m c t.val t.isLt).2.2.2.1 = next (k0_pay5 (k0_pay15 (xblk m c t))
        (outsAt0 m c (t.val - 1) (Nat.lt_of_le_of_lt (Nat.sub_le _ _) t.isLt)).2.2.2.2)
    ∧ (outsAt0 m c t.val t.isLt).2.2.2.2 = k0_pay5 (k0_pay15 (xblk m c t))
        (outsAt0 m c (t.val - 1) (Nat.lt_of_le_of_lt (Nat.sub_le _ _) t.isLt)).2.2.2.2 := by
  rw [outsAt0_C m c t h0 h1 h2]
  dsimp only
  exact ⟨out_C_2 .., out_C_3 .., out_C_4 .., out_C_5 .., sout_C ..⟩

/-- What the blocks and the running maximum hold after each point. -/
theorem outs_eq (c : Dev nD) : ∀ (n : ℕ) (h : n < cfg0.N),
    (outsAt0 m c n h).1 = codes (sblk m c ⟨n, h⟩) (xblk m c ⟨n, h⟩)
    ∧ (outsAt0 m c n h).2.1 = codesT (sblk m c ⟨n, h⟩) (xblk m c ⟨n, h⟩)
    ∧ (outsAt0 m c n h).2.2.2.2 = colmax m c n h
  | 0, h => point_A m c ⟨0, h⟩ rfl (Nat.not_succ_le_zero 0) (by dsimp only; omega)
  | n + 1, h => by
    have hN : n + 1 < 32 := lt_of_lt_of_eq h N_0
    have h0 : ¬(⟨n + 1, h⟩ : Fin cfg0.N).val % 32 = 0 := by dsimp only; omega
    have h1 : 1 ≤ (⟨n + 1, h⟩ : Fin cfg0.N).val := by dsimp only; omega
    have ih := (outs_eq c n (Nat.lt_of_succ_lt h)).2.2
    have hs := congrArg (k0_pay5 (k0_pay15 (xblk m c ⟨n + 1, h⟩))) ih
    by_cases h2 : (⟨n + 1, h⟩ : Fin cfg0.N).val % 32 = 31
    · obtain ⟨e1, e2, -, -, e3⟩ := point_C m c ⟨n + 1, h⟩ h0 h1 h2
      exact ⟨e1, e2, e3.trans hs⟩
    · obtain ⟨e1, e2, e3⟩ := point_B m c ⟨n + 1, h⟩ h0 h1 h2
      exact ⟨e1, e2, e3.trans hs⟩

/-- The last point. -/
theorem last_lt : 31 < cfg0.N := lt_of_lt_of_eq (by decide) N_0.symm

/-- The two scalars after the last point. -/
theorem outs_last (c : Dev nD) :
    (outsAt0 m c 31 last_lt).2.2.1 = k0_pay6 (colmax m c 31 last_lt)
    ∧ (outsAt0 m c 31 last_lt).2.2.2.1 = next (colmax m c 31 last_lt) := by
  obtain ⟨-, -, e4, e5, e6⟩ := point_C m c ⟨31, last_lt⟩ (by dsimp only; omega) (by dsimp only; omega) (by dsimp only)
  have e := e6.symm.trans (outs_eq m c 31 last_lt).2.2
  rw [e] at e4 e5
  exact ⟨e4, e5⟩

/-- The array of codes, at each index. -/
theorem G2_apply (c : Dev nD) (i : S16384x2048.Idx) (h : pt2Of i < cfg0.N) :
    G2 m c i = codes (sblk m c ⟨pt2Of i, h⟩) (xblk m c ⟨pt2Of i, h⟩) (loc2Of i) := by
  unfold G2
  rw [dif_pos h, ← outsAt0_sweep m c (pt2Of i) h, (outs_eq m c (pt2Of i) h).1]

/-- The transposed array, at each index. -/
theorem G3_apply (c : Dev nD) (i : S2048x16384.Idx) (h : pt3Of i < cfg0.N) :
    G3 m c i = codesT (sblk m c ⟨pt3Of i, h⟩) (xblk m c ⟨pt3Of i, h⟩) (loc3Of i) := by
  unfold G3
  rw [dif_pos h, ← outsAt0_sweep m c (pt3Of i) h, (outs_eq m c (pt3Of i) h).2.1]

/-- The array of the largest magnitude. -/
theorem G4_eq (c : Dev nD) : G4 m c = k0_pay6 (colmax m c 31 last_lt) := by
  rw [G4_last, ← outsAt0_sweep m c 31 last_lt, (outs_last m c).1]

/-- The array of the next scale. -/
theorem G5_eq (c : Dev nD) : G5 m c = next (colmax m c 31 last_lt) := by
  rw [G5_last, ← outsAt0_sweep m c 31 last_lt, (outs_last m c).2]

end Cert.KernelIdeal.Quant

end
-- ==== Proof.Words.lean ====
/- The numbers that float32 words with an empty significand denote.

   The word `b <<< 23` has biased exponent `b`, sign plus and significand zero: it is zero at `b = 0`, the power of two
   `2 ^ (b - 127)` at `1 ≤ b ≤ 254`, and infinity at `b = 255`. The kernel builds every power of two it uses this way. -/
module

public import Idealize.ShloMosaic.PureOps.Ideal

@[expose] public section

noncomputable section

namespace Cert.Quant

open Idealize.ShloMosaic

/-- The number the float32 word with biased exponent `n` and significand zero denotes (`n ≤ 255`). -/
def binade (n : ℕ) : EReal :=
  if n = 0 then 0 else if n = 255 then ⊤ else (((2 : ℝ) ^ ((n : ℤ) - 127) : ℝ) : EReal)

/-- The float32 the kernel builds from an integer: the word shifted up past the significand, read as a float. -/
def ofExponent (b : BitVec 32) : EReal := Ideal.ofBits .f32 (IntOp.shli .vector b 23#32)

/-- The shifted word's three fields: the biased exponent is the number shifted, sign and significand are zero. -/
theorem fields_shifted (n : ℕ) (h : n ≤ 255) :
    ((BitVec.ofNat 32 n <<< 23).extractLsb' 31 1).toNat = 0
    ∧ ((BitVec.ofNat 32 n <<< 23).extractLsb' 23 8).toNat = n
    ∧ ((BitVec.ofNat 32 n <<< 23).extractLsb' 0 23).toNat = 0 := by
  simp only [BitVec.extractLsb'_toNat, BitVec.toNat_shiftLeft, BitVec.toNat_ofNat, Nat.shiftLeft_eq, Nat.shiftRight_eq_div_pow]
  refine ⟨?_, ?_, ?_⟩ <;> omega

/-- A word with sign plus, biased exponent `n` and significand zero denotes `binade n`. -/
theorem ieee_of_fields (b : BitVec 32) (n : ℕ) (hs : (b.extractLsb' 31 1).toNat = 0) (he : (b.extractLsb' 23 8).toNat = n)
    (hf : (b.extractLsb' 0 23).toNat = 0) : Ideal.ieee 8 23 b = binade n := by
  have hs' : (b.extractLsb' 31 1 == 1#1) = false := by
    rw [show b.extractLsb' 31 1 = 0#1 from BitVec.eq_of_toNat_eq hs]; rfl
  unfold Ideal.ieee binade
  simp only [Nat.reduceAdd, hs', he, hf]
  by_cases h0 : n = 0
  · subst h0; simp
  by_cases h255 : n = 255
  · subst h255; simp
  rw [if_neg h0, if_neg h255, if_neg (show ¬n = 2 ^ 8 - 1 from h255), if_neg h0]
  have h1 : (2 : ℝ) ^ 23 * 2 ^ ((n : ℤ) - (2 ^ (8 - 1) - 1) - (23 : ℕ)) = 2 ^ ((n : ℤ) - 127) := by
    rw [← zpow_natCast, ← zpow_add₀ (by norm_num)]
    congr 1
    push_cast
    ring
  rw [← h1]
  norm_num [-EReal.coe_mul]

/-- So the float built from `n ≤ 255` is the number `binade n`. -/
theorem ofExponent_ofNat (n : ℕ) (h : n ≤ 255) : ofExponent (BitVec.ofNat 32 n) = binade n := by
  obtain ⟨hs, he, hf⟩ := fields_shifted n h
  have hsh : IntOp.shli .vector (BitVec.ofNat 32 n) 23#32 = BitVec.ofNat 32 n <<< 23 := if_pos (by decide)
  unfold ofExponent
  rw [hsh]
  exact ieee_of_fields _ n hs he hf

end Cert.Quant

end
-- ==== Proof.Exponent.lean ====
/- The binary exponent, found two ways.

   The kernel bisects: of the 256 numbers `binade 0, …, binade 255` it finds the greatest that is at most the magnitude,
   deciding one bit of the answer at a time. The reference takes the floor of the base-two logarithm. The two exponents
   agree up to 128, and above 128 the powers of two taken of them agree all the same. -/
module

public import proofs.«01_k».proof.Proof.Words

@[expose] public section

noncomputable section

namespace Cert.Quant

open Idealize.ShloMosaic

/-! ## The kernel's exponent -/

/-- One bit of the kernel's bisection: the bit stays if the number built with it is still at most the magnitude. -/
def step (mag : EReal) (b bit : BitVec 32) : BitVec 32 :=
  Scalar.select (Ideal.cmp .oge mag (ofExponent (IntOp.addi b bit))) (IntOp.addi b bit) b

/-- The kernel's biased exponent of a magnitude: eight bits, the highest first. -/
def biased (mag : EReal) : BitVec 32 :=
  step mag (step mag (step mag (step mag (step mag (step mag (step mag (step mag 0#32 128#32) 64#32) 32#32) 16#32) 8#32) 4#32)
    2#32) 1#32

/-- The kernel's exponent from the biased one: moved by 126, and 0 for the two reserved values 0 and 255. -/
def unbias (b : BitVec 32) : BitVec 32 :=
  Scalar.select (IntOp.andi (IntOp.cmpi .sgt b 0#32) (IntOp.cmpi .slt b 255#32)) (IntOp.subi b 126#32) 0#32

/-- The kernel's power of two: the exponent moved by 127, clipped to the eight bits, and made a float. -/
def pow2 (n : BitVec 32) : EReal :=
  ofExponent (IntOp.minsi 255#32 (IntOp.maxsi 0#32 (IntOp.addi n 127#32)))

/-- The state of the bisection: `n` is low enough, and `n + len` is either past the end or too high. -/
def Between (mag : EReal) (n len : ℕ) : Prop :=
  n + len ≤ 256 ∧ binade n ≤ mag ∧ (n + len = 256 ∨ mag < binade (n + len))

/-- One step halves the interval. -/
theorem step_between (mag : EReal) (n k : ℕ) (hk : 0 < k) (h : Between mag n (2 * k)) :
    ∃ n', step mag (BitVec.ofNat 32 n) (BitVec.ofNat 32 k) = BitVec.ofNat 32 n' ∧ Between mag n' k := by
  obtain ⟨hle, hlo, hhi⟩ := h
  have hadd : IntOp.addi (BitVec.ofNat 32 n) (BitVec.ofNat 32 k) = BitVec.ofNat 32 (n + k) := (BitVec.ofNat_add n k).symm
  unfold step
  rw [hadd, ofExponent_ofNat (n + k) (by omega)]
  by_cases hc : binade (n + k) ≤ mag
  · refine ⟨n + k, ?_, by omega, hc, ?_⟩
    · simp [Scalar.select, Ideal.cmp, hc]
    · rw [show n + k + k = n + 2 * k by omega]; exact hhi
  · refine ⟨n, ?_, by omega, hlo, Or.inr (not_le.mp hc)⟩
    simp [Scalar.select, Ideal.cmp, hc]

/-- The kernel's biased exponent is the greatest `n ≤ 255` with `binade n` at most the magnitude. -/
theorem biased_spec (mag : EReal) (h0 : 0 ≤ mag) :
    ∃ n, biased mag = BitVec.ofNat 32 n ∧ n ≤ 255 ∧ binade n ≤ mag ∧ (n = 255 ∨ mag < binade (n + 1)) := by
  have b0 : Between mag 0 (2 * 128) := ⟨by omega, by simpa [binade] using h0, Or.inl rfl⟩
  obtain ⟨n1, e1, b1⟩ := step_between mag 0 128 (by omega) b0
  obtain ⟨n2, e2, b2⟩ := step_between mag n1 64 (by omega) b1
  obtain ⟨n3, e3, b3⟩ := step_between mag n2 32 (by omega) b2
  obtain ⟨n4, e4, b4⟩ := step_between mag n3 16 (by omega) b3
  obtain ⟨n5, e5, b5⟩ := step_between mag n4 8 (by omega) b4
  obtain ⟨n6, e6, b6⟩ := step_between mag n5 4 (by omega) b5
  obtain ⟨n7, e7, b7⟩ := step_between mag n6 2 (by omega) b6
  obtain ⟨n8, e8, b8⟩ := step_between mag n7 1 (by omega) b7
  obtain ⟨hle, hlo, hhi⟩ := b8
  refine ⟨n8, ?_, by omega, hlo, hhi.imp (fun h => by omega) id⟩
  unfold biased
  rw [e1, e2, e3, e4, e5, e6, e7, e8]

/-- The kernel's exponent of a biased exponent `n ≤ 255`, as an integer. -/
theorem unbias_ofNat (n : ℕ) (h : n ≤ 255) :
    unbias (BitVec.ofNat 32 n) = BitVec.ofInt 32 (if 0 < n ∧ n < 255 then (n : ℤ) - 126 else 0) := by
  have all : ∀ k : Fin 256, unbias (BitVec.ofNat 32 k) = BitVec.ofInt 32 (if 0 < k.val ∧ k.val < 255 then (k.val : ℤ) - 126 else 0) := by
    decide +kernel
  exact all ⟨n, by omega⟩

/-! ## Powers of two -/

/-- `2 ^ e` as a float32 without subnormals: zero below `2 ^ -126`, infinity above `2 ^ 127`. -/
def twoPow (e : ℤ) : EReal :=
  if e < -126 then 0 else if 127 < e then ⊤ else (((2 : ℝ) ^ e : ℝ) : EReal)

/-- The kernel's clipped, moved exponent, as a natural number. -/
theorem clip_ofInt (d : ℤ) (h1 : -300 ≤ d) (h2 : d ≤ 300) :
    IntOp.minsi 255#32 (IntOp.maxsi 0#32 (IntOp.addi (BitVec.ofInt 32 d) 127#32)) = BitVec.ofNat 32 (min 255 (d + 127).toNat) := by
  have all : ∀ k : Fin 601, IntOp.minsi 255#32 (IntOp.maxsi 0#32 (IntOp.addi (BitVec.ofInt 32 ((k.val : ℤ) - 300)) 127#32))
      = BitVec.ofNat 32 (min 255 (((k.val : ℤ) - 300) + 127).toNat) := by
    decide +kernel
  have := all ⟨(d + 300).toNat, by omega⟩
  rwa [show (((⟨(d + 300).toNat, by omega⟩ : Fin 601).val : ℕ) : ℤ) - 300 = d by show ((d + 300).toNat : ℤ) - 300 = d; omega] at this

/-- The kernel's power of two is `twoPow`. -/
theorem pow2_ofInt (d : ℤ) (h1 : -300 ≤ d) (h2 : d ≤ 300) : pow2 (BitVec.ofInt 32 d) = twoPow d := by
  unfold pow2
  rw [clip_ofInt d h1 h2, ofExponent_ofNat _ (by omega)]
  unfold binade twoPow
  by_cases hlo : d < -126
  · rw [if_pos (by omega), if_pos hlo]
  by_cases hhi : 127 < d
  · rw [if_neg (by omega), if_pos (by omega), if_neg hlo, if_pos hhi]
  · rw [if_neg (by omega), if_neg (by omega), if_neg hlo, if_neg hhi]
    congr 2
    omega

/-- A float32 pattern's number, at the constants the reference compares with. -/
theorem ofBits_one : Ideal.ofBits .f32 0x3F800000#32 = ((1 : ℝ) : EReal) := by
  simp [Ideal.ofBits, Ideal.ieee, -EReal.coe_mul]; norm_num
theorem ofBits_zero : Ideal.ofBits .f32 0x00000000#32 = ((0 : ℝ) : EReal) := by simp [Ideal.ofBits, Ideal.ieee]
theorem ofBits_inf : Ideal.ofBits .f32 0x7F800000#32 = ⊤ := by simp [Ideal.ofBits, Ideal.ieee]
theorem ofBits_lo : Ideal.ofBits .f32 0xC2FC0000#32 = ((-126 : ℝ) : EReal) := by
  simp [Ideal.ofBits, Ideal.ieee, -EReal.coe_mul]; norm_num
theorem ofBits_hi : Ideal.ofBits .f32 0x42FE0000#32 = ((127 : ℝ) : EReal) := by
  simp [Ideal.ofBits, Ideal.ieee, -EReal.coe_mul]; norm_num
theorem ofBits_tiny : Ideal.ofBits .f32 0x00800000#32 = binade 1 := ofExponent_ofNat 1 (by omega)

/-- The reference's power of two. -/
def refPow2 (n : EReal) : EReal :=
  Scalar.select (Ideal.cmp .olt n (Ideal.ofBits .f32 0xC2FC0000#32)) (Ideal.ofBits .f32 0x00000000#32)
    (Scalar.select (Ideal.cmp .ogt n (Ideal.ofBits .f32 0x42FE0000#32)) (Ideal.ofBits .f32 0x7F800000#32) (Ideal.exp2 n))

/-- At an integer the reference's power of two is `twoPow`. -/
theorem refPow2_int (e : ℤ) : refPow2 ((e : ℝ) : EReal) = twoPow e := by
  unfold refPow2 twoPow
  rw [ofBits_lo, ofBits_hi, ofBits_zero, ofBits_inf]
  have c1 : (((e : ℝ) : EReal) < ((-126 : ℝ) : EReal)) ↔ e < -126 := by
    rw [EReal.coe_lt_coe_iff]; exact_mod_cast Iff.rfl
  have c2 : (((127 : ℝ) : EReal) < ((e : ℝ) : EReal)) ↔ 127 < e := by
    rw [EReal.coe_lt_coe_iff]; exact_mod_cast Iff.rfl
  by_cases hlo : e < -126
  · simp only [Ideal.cmp, Scalar.select, c1, hlo]; simp
  by_cases hhi : 127 < e
  · simp only [Ideal.cmp, Scalar.select, c1, c2, hlo, hhi]; simp
  · simp only [Ideal.cmp, Scalar.select, c1, c2, hlo, hhi]; simp

/-! ## The reference's exponent -/

/-- The reference's exponent of a magnitude: the floor of its base-two logarithm plus one where it is normal and finite. -/
def refExponent (mag : EReal) : EReal :=
  Scalar.select (IntOp.andi (Ideal.cmp .oge mag (Ideal.ofBits .f32 0x00800000#32)) (Ideal.cmp .olt mag (Ideal.ofBits .f32 0x7F800000#32)))
    (Ideal.liftRound Int.floor (Ideal.div (Ideal.log mag) ((Real.log 2 : ℝ) : EReal)) + Ideal.ofBits .f32 0x3F800000#32)
    (Ideal.ofBits .f32 0x00000000#32)

/-- Off the normal finite magnitudes the reference's exponent is 0. -/
theorem refExponent_of_not (mag : EReal) (h : ¬(binade 1 ≤ mag ∧ mag < ⊤)) : refExponent mag = (((0 : ℤ) : ℝ) : EReal) := by
  unfold refExponent
  rw [ofBits_tiny, ofBits_inf, ofBits_zero]
  by_cases h1 : binade 1 ≤ mag
  · have h2 : ¬mag < ⊤ := fun h2 => h ⟨h1, h2⟩
    simp only [Ideal.cmp, Scalar.select, h1, h2]; simp [IntOp.andi]
  · simp only [Ideal.cmp, Scalar.select, h1]; simp [IntOp.andi]

/-- At a normal finite magnitude `r` it is `⌊log2 r⌋ + 1`. -/
theorem refExponent_real (r : ℝ) (h : binade 1 ≤ (r : EReal)) (h0 : 0 < r) :
    refExponent (r : EReal) = (((⌊Real.log r / Real.log 2⌋ + 1 : ℤ) : ℝ) : EReal) := by
  unfold refExponent
  rw [ofBits_tiny, ofBits_inf, ofBits_one]
  have h2 : (r : EReal) < ⊤ := EReal.coe_lt_top r
  have hl : (Real.log 2 : ℝ) ≠ 0 := (Real.log_pos (by norm_num)).ne'
  have hd : Ideal.div (Ideal.log (r : EReal)) ((Real.log 2 : ℝ) : EReal) = ((Real.log r / Real.log 2 : ℝ) : EReal) := by
    unfold Ideal.div
    rw [if_neg (by exact_mod_cast hl), Ideal.log_coe, if_neg (not_le.mpr h0), ← EReal.coe_inv, ← EReal.coe_mul, div_eq_mul_inv]
  rw [hd, Ideal.liftRound_coe]
  simp only [Ideal.cmp, Scalar.select, h, h2]
  simp [IntOp.andi]

/-- A number from `2 ^ k` on has a base-two logarithm of floor at least `k`. -/
theorem le_floor_log (r : ℝ) (k : ℤ) (h : (2 : ℝ) ^ k ≤ r) : k ≤ ⌊Real.log r / Real.log 2⌋ := by
  have hl : 0 < Real.log 2 := Real.log_pos (by norm_num)
  rw [Int.le_floor, le_div_iff₀ hl, ← Real.log_zpow]
  exact Real.log_le_log (zpow_pos (by norm_num) k) h

/-- A positive number below `2 ^ k` has one of floor less than `k`. -/
theorem floor_log_lt (r : ℝ) (k : ℤ) (h0 : 0 < r) (h : r < (2 : ℝ) ^ k) : ⌊Real.log r / Real.log 2⌋ < k := by
  have hl : 0 < Real.log 2 := Real.log_pos (by norm_num)
  rw [Int.floor_lt, div_lt_iff₀ hl, ← Real.log_zpow]
  exact Real.log_lt_log h0 h

/-! ## The two exponents -/

/-- The reference's exponent is an integer `e ≥ -125`, and the kernel's is the least of `e` and 128. -/
theorem exponents (mag : EReal) (h0 : 0 ≤ mag) :
    ∃ e : ℤ, -125 ≤ e ∧ refExponent mag = ((e : ℝ) : EReal) ∧ unbias (biased mag) = BitVec.ofInt 32 (min e 128) := by
  obtain ⟨n, hb, hn, hlo, hhi⟩ := biased_spec mag h0
  rw [hb, unbias_ofNat n hn]
  by_cases hz : n = 0
  · subst hz
    refine ⟨0, by omega, refExponent_of_not mag fun h => ?_, rfl⟩
    exact absurd h.1 (not_le.mpr (hhi.resolve_left (by omega)))
  by_cases ht : n = 255
  · subst ht
    have htop : mag = ⊤ := top_le_iff.mp hlo
    exact ⟨0, by omega, refExponent_of_not mag fun h => absurd htop h.2.ne, rfl⟩
  have hup : mag < binade (n + 1) := hhi.resolve_left ht
  have hfin : mag ≠ ⊤ := (lt_of_lt_of_le hup le_top).ne
  have hbot : mag ≠ ⊥ := (lt_of_lt_of_le EReal.bot_lt_zero h0).ne'
  lift mag to ℝ using ⟨hfin, hbot⟩
  have hlo' : (2 : ℝ) ^ ((n : ℤ) - 127) ≤ mag := by
    simp only [binade, if_neg hz, if_neg ht] at hlo
    exact_mod_cast hlo
  have hpos : 0 < mag := lt_of_lt_of_le (zpow_pos (by norm_num) _) hlo'
  have hnorm : binade 1 ≤ (mag : EReal) := by
    refine le_trans ?_ hlo
    simp only [binade, if_neg hz, if_neg ht, if_neg (show (1 : ℕ) ≠ 0 by omega), if_neg (show (1 : ℕ) ≠ 255 by omega)]
    rw [EReal.coe_le_coe_iff]
    exact zpow_le_zpow_right₀ (by norm_num) (by omega)
  have hge := le_floor_log mag _ hlo'
  refine ⟨⌊Real.log mag / Real.log 2⌋ + 1, by omega, refExponent_real mag hnorm hpos, ?_⟩
  rw [if_pos (by omega)]
  by_cases h254 : n = 254
  · congr 1; omega
  · have hup' : mag < (2 : ℝ) ^ ((n : ℤ) - 126) := by
      simp only [binade, if_neg (show n + 1 ≠ 0 by omega), if_neg (show n + 1 ≠ 255 by omega), EReal.coe_lt_coe_iff] at hup
      rwa [show ((n + 1 : ℕ) : ℤ) - 127 = (n : ℤ) - 126 by push_cast; ring] at hup
    have hlt := floor_log_lt mag _ hpos hup'
    congr 1; omega

/-- The inverse scale: the kernel's `2 ^ (1 - e)` is the reference's. -/
theorem inverse_eq (mag : EReal) (h0 : 0 ≤ mag) :
    pow2 (IntOp.subi 1#32 (unbias (biased mag))) = refPow2 (Ideal.ofBits .f32 0x3F800000#32 - refExponent mag) := by
  obtain ⟨e, he, hr, hk⟩ := exponents mag h0
  have hs : IntOp.subi 1#32 (BitVec.ofInt 32 (min e 128)) = BitVec.ofInt 32 (1 - min e 128) := by
    apply BitVec.eq_of_toNat_eq
    simp only [IntOp.subi, BitVec.toNat_sub, BitVec.toNat_ofInt, BitVec.toNat_ofNat]
    omega
  rw [hk, hs, pow2_ofInt _ (by omega) (by omega), hr, ofBits_one, ← EReal.coe_sub,
    show (1 : ℝ) - (e : ℝ) = ((1 - e : ℤ) : ℝ) by push_cast; ring, refPow2_int]
  by_cases h : e ≤ 128
  · rw [min_eq_left h]
  · unfold twoPow
    rw [if_pos (by omega), if_pos (by omega)]

/-- The next scale: the kernel's `2 ^ e`, at exponent 0 when the maximum is 0, is the reference's. -/
theorem next_eq (amax mag : EReal) (h0 : 0 ≤ mag) :
    pow2 (Scalar.select (Ideal.cmp .oeq amax (Ideal.ofBits .f32 0x00000000#32)) 0#32 (unbias (biased mag)))
      = refPow2 (Scalar.select (Ideal.cmp .oeq amax (Ideal.ofBits .f32 0x00000000#32)) (Ideal.ofBits .f32 0x00000000#32)
          (refExponent mag)) := by
  obtain ⟨e, he, hr, hk⟩ := exponents mag h0
  unfold Scalar.select
  split
  · rw [show pow2 0#32 = twoPow 0 from pow2_ofInt 0 (by omega) (by omega), ofBits_zero,
      show (0 : ℝ) = ((0 : ℤ) : ℝ) by norm_num, refPow2_int]
  · rw [hk, pow2_ofInt _ (by omega) (by omega), hr, refPow2_int]
    by_cases h : e ≤ 128
    · rw [min_eq_left h]
    · unfold twoPow
      rw [if_neg (by omega), if_pos (by omega), if_neg (by omega), if_pos (by omega)]

end Cert.Quant

end
-- ==== Proof.Max.lean ====
/- A maximum over the extended reals, characterised by its upper bounds: the reduction's value is the least `z` that every
   element it covers lies below. Two maxima taken in different orders are compared through their bounds. -/
module

public import Idealize.ShloMosaic.PureOps
public import Idealize.ShloMosaic.PureOps.Reduce
public import Idealize.ShloMosaic.PureOps.Ideal
public import Idealize.ShloMosaic.PureOps.Ideal.Laws

@[expose] public section

noncomputable section

namespace Cert.Quant

open Idealize.ShloMosaic

/-- The word a maximum starts from reads as `-∞`. -/
theorem start_eq_bot : (Ideal.ofBits .f32 0xFF800000#32 : EReal) = ⊥ := by
  have hx : (0xFF800000#32 : BitVec 32).extractLsb' 23 8 = 255#8 := by decide
  have hf : (0xFF800000#32 : BitVec 32).extractLsb' 0 23 = 0#23 := by decide
  have hs : (0xFF800000#32 : BitVec 32).extractLsb' (8 + 23) 1 = 1#1 := by decide
  simp only [Ideal.ofBits, Ideal.ieee, hx, hf, hs]
  simp

/-- A fold of `max` from `-∞` lies below `z` exactly when every element does. -/
theorem fold_max_le {ι : Type} (s : Finset ι) (f : ι → EReal) (z : EReal) :
    s.fold max ⊥ f ≤ z ↔ ∀ i ∈ s, f i ≤ z := by
  rw [Finset.fold_max_le]
  simp

/-- A maximum reduction at `j` lies below `z` exactly when every element that reduces to `j` does. -/
theorem reduce_max_le {s t : Shape} (axes : List (Fin s.rank)) (src : s.Idx → EReal) (h : s.Reduces axes t)
    (hφ) (hacc) (j : t.Idx) (z : EReal) :
    (multiReduction (F := Ideal) .maximumf axes t (φ := .f32) src 0xFF800000#32 h hφ hacc : t.Idx → EReal) j ≤ z
      ↔ ∀ i, h.drop i = j → src i ≤ z := by
  rw [multiReduction_maximumf_eq_fold (F := Ideal) (φ := .f32) src 0xFF800000#32 h hφ hacc j,
    show FloatOps.ofBits (F := Ideal) .f32 0xFF800000#32 = (⊥ : EReal) from start_eq_bot]
  refine (fold_max_le _ _ _).trans ?_
  simp

/-- The magnitude of a number. -/
theorem mag_nonneg (x : EReal) : 0 ≤ max x (-x) := by
  rcases le_total 0 x with h | h
  · exact le_max_of_le_left h
  · exact le_max_of_le_right (EReal.neg_nonneg.mpr h)

/-- An element's code: the element times the inverse scale, clipped to the largest code and its negative. -/
def quantise (inv x : EReal) : EReal :=
  min (Ideal.ofBits .f32 0x43E00000#32) (max (Ideal.ofBits .f32 0xC3E00000#32) (x * inv))

end Cert.Quant

end
-- ==== Proof.KernelValues.lean ====
/- The kernel's blocks read over the extended reals, element by element: an element of the codes is the input element
   times the inverse scale, clipped; a running column maximum is bounded by `z` exactly when every element it has seen is. -/
module

public import proofs.«01_k».proof.Proof.Arrays
public import proofs.«01_k».proof.Proof.Exponent
public import proofs.«01_k».proof.Proof.Max

@[expose] public section

noncomputable section

namespace Cert.KernelIdeal.Quant

open Cert.KernelIdeal Cert.KernelIdeal.Gen Cert.KernelIdeal.Value Idealize.ShloMosaic Idealize.ShloMosaic.TcCoe Idealize.SL.Sem
open Cert.Quant

/-- The one index of a one-by-one array. -/
abbrev o : S1x1.Idx := fun a => match a with
  | ⟨0, _⟩ => ⟨0, Nat.zero_lt_one⟩
  | ⟨1, _⟩ => ⟨0, Nat.zero_lt_one⟩

/-- Every index of a one-by-one array is that one. -/
theorem eq_o (i : S1x1.Idx) : i = o := by
  funext a
  apply Fin.ext
  match a with
  | ⟨0, _⟩ => exact Nat.lt_one_iff.mp (i 0).isLt
  | ⟨1, _⟩ => exact Nat.lt_one_iff.mp (i 1).isLt

/-- One bit of the bisection, on a one-by-one array. -/
def vstep (mag : FVec Ideal S1x1 .f32) (b : IVec S1x1 32) (bit : BitVec 32) : IVec S1x1 32 :=
  fun i => step (mag i) (b i) bit

/-- The kernel's operations for one bit are `vstep`. -/
theorem fold_step (mag : FVec Ideal S1x1 .f32) (b : IVec S1x1 32) (bit : BitVec 32) :
    select (cmpf .oge mag (bitcastToFloat .f32 (shli (addi b (broadcast S1x1 bit)) (broadcast S1x1 23#32))))
      (addi b (broadcast S1x1 bit)) b = vstep mag b bit := rfl

/-- The kernel's exponent from the biased one, on a one-by-one array. -/
def vunbias (b : IVec S1x1 32) : IVec S1x1 32 := fun i => unbias (b i)

/-- The kernel's operations for it are `vunbias`. -/
theorem fold_unbias (b : IVec S1x1 32) :
    select (andi (cmpi .sgt b (broadcast S1x1 0#32)) (cmpi .slt b (broadcast S1x1 255#32)))
      (subi b (broadcast S1x1 126#32)) (broadcast S1x1 0#32) = vunbias b := rfl

/-- The kernel's power of two, on a one-by-one array. -/
def vpow2 (n : IVec S1x1 32) : FVec Ideal S1x1 .f32 := fun i => pow2 (n i)

/-- The kernel's operations for it are `vpow2`. -/
theorem fold_pow2 (n : IVec S1x1 32) :
    bitcastToFloat .f32 (shli (minsi (broadcast S1x1 255#32) (maxsi (broadcast S1x1 0#32) (addi n (broadcast S1x1 127#32))))
      (broadcast S1x1 23#32)) = vpow2 n := rfl

/-- The inverse scale the kernel multiplies by. -/
def inverse (s : EReal) : EReal := pow2 (IntOp.subi 1#32 (unbias (biased (max s (-s)))))

/-- The scale for the next step, of the largest magnitude. -/
def nextScale (a : EReal) : EReal :=
  pow2 (Scalar.select (Ideal.cmp .oeq a (Ideal.ofBits .f32 0x00000000#32)) 0#32
    (unbias (biased (max (a * Ideal.ofBits .f32 0x3B124925#32) (-(a * Ideal.ofBits .f32 0x3B124925#32))))))

/-- The scaled block before clipping, at an element. -/
theorem scaled_apply (s : Vec Ideal S1x1 .f32) (x : Vec Ideal S512x2048 .f32) (j : S512x2048.Idx) :
    k0_pay16 (k0_pay11 s) (k0_pay12 s) (k0_pay13 s) (k0_pay14 s) x j = (x j * inverse (s o) : EReal) := by
  unfold k0_pay16 k0_pay15 k0_pay14 k0_pay13 k0_pay12 k0_pay11
  simp only [shapeCast_self, fold_step, fold_unbias, fold_pow2]
  refine congrArg (fun v : EReal => (x j * v : EReal)) ((broadcastTo_apply _ broadcasts_S1x1_S512x2048 j o fun a => ?_).trans rfl)
  match a with
  | ⟨0, _⟩ => rfl
  | ⟨1, _⟩ => rfl

/-- An element of the codes. -/
theorem codes_apply (s : Vec Ideal S1x1 .f32) (x : Vec Ideal S512x2048 .f32) (j : S512x2048.Idx) :
    codes s x j = quantise (inverse (s o)) (x j) :=
  congrArg (fun v : EReal => min (Ideal.ofBits .f32 0x43E00000#32) (max (Ideal.ofBits .f32 0xC3E00000#32) v)) (scaled_apply s x j)

/-- An element of the transposed codes. -/
theorem codesT_apply (s : Vec Ideal S1x1 .f32) (x : Vec Ideal S512x2048 .f32) (j : S2048x512.Idx) (k : S512x2048.Idx)
    (h0 : (k 0).val = (j 1).val) (h1 : (k 1).val = (j 0).val) :
    codesT s x j = quantise (inverse (s o)) (x k) :=
  (transpose_apply _ _ transposes_S512x2048_p1_0_S2048x512 j k fun b => by
    match b with
    | ⟨0, _⟩ => exact h1
    | ⟨1, _⟩ => exact h0).trans (codes_apply s x k)

/-- The first five bits of the next scale's exponent. -/
theorem five_bits (r : Vec Ideal S1x2048 .f32) : k0_pay8 r
    = vstep (k0_pay7 r) (vstep (k0_pay7 r) (vstep (k0_pay7 r) (vstep (k0_pay7 r) (vstep (k0_pay7 r) (broadcast S1x1 0#32) 128#32)
        64#32) 32#32) 16#32) 8#32 := by
  unfold k0_pay8
  generalize k0_pay7 r = a
  dsimp only
  repeat rw [fold_step]

/-- The rest of it, and the power of two. -/
theorem other_bits (amax mag : FVec Ideal S1x1 .f32) (b : IVec S1x1 32) :
    k0_pay10 amax mag b (addi b (broadcast S1x1 4#32))
      = vpow2 (select (cmpf .oeq amax (broadcast S1x1 (Scalar.ofBits .f32 0x00000000#32))) (broadcast S1x1 0#32)
          (vunbias (vstep mag (vstep mag (vstep mag b 4#32) 2#32) 1#32))) := by
  unfold k0_pay10
  dsimp only
  repeat rw [fold_step]
  rw [fold_unbias, fold_pow2]

/-- The scale for the next step. -/
theorem next_apply (r : Vec Ideal S1x2048 .f32) (i : S1x1.Idx) : next r i = nextScale (k0_pay6 r o) := by
  rw [eq_o i]
  unfold next k0_pay9
  dsimp only
  rw [other_bits, five_bits]
  have h7 : max (k0_pay6 r o * Ideal.ofBits .f32 0x3B124925#32 : EReal) (-(k0_pay6 r o * Ideal.ofBits .f32 0x3B124925#32 : EReal))
      = k0_pay7 r o := rfl
  unfold nextScale
  rw [h7]
  generalize k0_pay7 r = mag
  generalize k0_pay6 r = a
  rfl

/-! ## The maxima -/

/-- The column maximum of one block. -/
theorem block_max_le (x : Vec Ideal S512x2048 .f32) (y : S1x2048.Idx) (z : EReal) :
    (k0_pay3 (k0_pay15 x) y : EReal) ≤ z ↔ ∀ i : S512x2048.Idx, (i 1).val = (y 1).val → max (x i) (-(x i)) ≤ z := by
  unfold k0_pay3 k0_pay15
  simp only [shapeCast_self]
  rw [shapeCast_apply _ shapeCasts_S2048_S1x2048 y (fun a => match a with | ⟨0, _⟩ => ⟨(y 1).val, (y 1).isLt⟩) (by
    have h : (y 0).val < 1 := (y 0).isLt
    rw [Shape.rowMajor_val_one, Shape.rowMajor_val_two]
    show (y 1).val = (y 0).val * 2048 + (y 1).val
    omega)]
  refine (reduce_max_le _ _ reduces_S512x2048_S2048 (.inl rfl) rfl _ z).trans (forall_congr' fun i => imp_congr ?_ Iff.rfl)
  rw [funext_iff, Fin.forall_fin_one, Fin.ext_iff, reduces_S512x2048_S2048.drop_apply_val_of_eq i 0 1]

/-- The running column maximum after point `n` is bounded exactly by the bounds of the blocks up to `n`. -/
theorem colmax_le (m : (ℓ : Loc nD τ sig) → Buf (Elt Ideal) ℓ) (c : Dev nD) (y : S1x2048.Idx) (z : EReal) :
    ∀ (n : ℕ) (h : n < cfg0.N), (colmax m c n h y : EReal) ≤ z
      ↔ ∀ (t : ℕ) (ht : t ≤ n) (i : S512x2048.Idx), (i 1).val = (y 1).val →
          max (xblk m c ⟨t, lt_of_le_of_lt ht h⟩ i) (-(xblk m c ⟨t, lt_of_le_of_lt ht h⟩ i)) ≤ z
  | 0, h => by
    unfold colmax k0_pay4
    rw [shapeCast_self, block_max_le]
    constructor
    · intro H t ht i hi
      obtain rfl : t = 0 := by omega
      exact H i hi
    · intro H i hi
      exact H 0 le_rfl i hi
  | n + 1, h => by
    unfold colmax k0_pay5
    rw [shapeCast_self]
    refine (max_le_iff (α := EReal)).trans ?_
    rw [colmax_le m c y z n, block_max_le]
    constructor
    · rintro ⟨H, H'⟩ t ht i hi
      rcases Nat.lt_or_ge n t with hlt | hge
      · obtain rfl : t = n + 1 := by omega
        exact H' i hi
      · exact H t hge i hi
    · intro H
      exact ⟨fun t ht i hi => H t (by omega) i hi, fun i hi => H (n + 1) le_rfl i hi⟩

/-- The reduction over lanes. -/
theorem lanes_max_le (r : Vec Ideal S1x2048 .f32) (z : EReal) : (k0_pay6 r o : EReal) ≤ z ↔ ∀ y : S1x2048.Idx, r y ≤ z := by
  unfold k0_pay6
  dsimp only
  rw [shapeCast_apply _ shapeCasts_S1_S1x1 o (fun a => match a with | ⟨0, _⟩ => ⟨0, Nat.zero_lt_one⟩) rfl]
  refine (reduce_max_le _ _ reduces_S1x2048_S1 (.inl rfl) rfl _ z).trans (forall_congr' fun i => ?_)
  refine ⟨fun H => H ?_, fun H _ => H⟩
  funext b
  apply Fin.ext
  match b with
  | ⟨0, _⟩ => exact Nat.lt_one_iff.mp (reduces_S1x2048_S1.drop i 0).isLt

end Cert.KernelIdeal.Quant

end
-- ==== Proof.KernelResult.lean ====
/- The kernel's four results over the extended reals, in terms of the input read as a matrix and the incoming scale. -/
module

public import proofs.«01_k».proof.Proof.KernelValues
public import Idealize.ShloMosaic.Lib.StableHlo.Run

@[expose] public section

noncomputable section

namespace Cert.KernelIdeal.Quant

open Cert.KernelIdeal Cert.KernelIdeal.Gen Cert.KernelIdeal.Value Idealize.ShloMosaic Idealize.ShloMosaic.TcCoe Idealize.SL.Sem
open Cert.Quant

variable (m : (ℓ : Loc nD τ sig) → Buf (Elt Ideal) ℓ)

/-- The input, its leading axes merged into rows. -/
def X (c : Dev nD) : Vec Ideal S16384x2048 .f32 :=
  shapeCast S16384x2048 (m ((c : Thread nD τ).loc main_arg0)) shapeCasts_S4x4096x2048_S16384x2048

/-- The incoming scale, as a one-by-one array. -/
def scale (c : Dev nD) : Vec Ideal S1x1 .f32 :=
  shapeCast S1x1 (m ((c : Thread nD τ).loc main_arg1)) shapeCasts_S1_S1x1

/-- What the kernel's input window reads is the merged input. -/
theorem V_x (c : Dev nD) : V m c main_call0_v0 = X m c := by
  unfold V
  after_results
  rfl

/-- What the kernel's scale window reads is the incoming scale. -/
theorem V_s (c : Dev nD) : V m c main_call0_v1 = scale m c := by
  unfold V
  after_results
  rfl

/-- The input window moves down one block of rows at each point, and the scale window stays. -/
theorem in_idx : ∀ t : Fin cfg0.N, win0_1.index t (0 : Fin 2) = t.val ∧ win0_1.index t (1 : Fin 2) = 0
    ∧ win0_0.index t (0 : Fin 2) = 0 ∧ win0_0.index t (1 : Fin 2) = 0 :=
  (by decide +kernel : ∀ t : Fin grid0.N, _)

/-- An element of the input block at a point. -/
theorem xblk_apply (c : Dev nD) (t : Fin cfg0.N) (j : S512x2048.Idx) (i : S16384x2048.Idx)
    (h0 : (i 0).val = t.val * 512 + (j 0).val) (h1 : (i 1).val = (j 1).val) : xblk m c t j = X m c i := by
  rw [← V_x]
  unfold xblk iblk
  rw [View.read_apply]
  show V m c main_call0_v0 _ = _
  refine congrArg (V m c main_call0_v0) (funext fun a => Fin.ext ?_)
  match a with
  | ⟨0, _⟩ => show win0_1.index t (0 : Fin 2) * 512 + 1 * (j 0).val = (i 0).val; rw [(in_idx t).1]; omega
  | ⟨1, _⟩ => show win0_1.index t (1 : Fin 2) * 2048 + 1 * (j 1).val = (i 1).val; rw [(in_idx t).2.1]; omega

/-- The scale block at a point. -/
theorem sblk_apply (c : Dev nD) (t : Fin cfg0.N) : sblk m c t o = scale m c o := by
  rw [← V_s]
  unfold sblk iblk
  rw [View.read_apply]
  show V m c main_call0_v1 _ = _
  exact congrArg (V m c main_call0_v1) (eq_o _)

/-- The array of codes. -/
theorem result2 (c : Dev nD) (i : S16384x2048.Idx) : G2 m c i = quantise (inverse (scale m c o)) (X m c i) := by
  have hi0 : (i 0).val < 16384 := (i 0).isLt
  have hi1 : (i 1).val < 2048 := (i 1).isLt
  have hN : cfg0.N = 32 := N_0
  have hp : pt2Of i = (i 0).val / 512 := by
    show 1 * ((i 0).val / 512 - 0) + 1 * ((i 1).val / 2048 - 0) = _
    omega
  have h : pt2Of i < cfg0.N := by rw [hp, hN]; omega
  rw [G2_apply m c i h, codes_apply, sblk_apply, xblk_apply m c _ _ i]
  · show (i 0).val = pt2Of i * 512 + (i 0).val % 512
    rw [hp]; omega
  · show (i 1).val = (i 1).val % 2048
    omega

/-- The index with its coordinates exchanged. -/
abbrev flip (i : S2048x16384.Idx) : S16384x2048.Idx := fun a => match a with
  | ⟨0, _⟩ => ⟨(i 1).val, (i 1).isLt⟩
  | ⟨1, _⟩ => ⟨(i 0).val, (i 0).isLt⟩

/-- The transposed array of codes. -/
theorem result3 (c : Dev nD) (i : S2048x16384.Idx) : G3 m c i = quantise (inverse (scale m c o)) (X m c (flip i)) := by
  have hi0 : (i 0).val < 2048 := (i 0).isLt
  have hi1 : (i 1).val < 16384 := (i 1).isLt
  have hN : cfg0.N = 32 := N_0
  have hp : pt3Of i = (i 1).val / 512 := by
    show 32 * ((i 0).val / 2048 - 0) + 1 * ((i 1).val / 512 - 0) = _
    omega
  have h : pt3Of i < cfg0.N := by rw [hp, hN]; omega
  rw [G3_apply m c i h, codesT_apply _ _ (loc3Of i) (fun a => match a with
      | ⟨0, _⟩ => ⟨(i 1).val % 512, Nat.mod_lt _ (by decide)⟩
      | ⟨1, _⟩ => ⟨(i 0).val % 2048, Nat.mod_lt _ (by decide)⟩) rfl rfl, sblk_apply, xblk_apply m c _ _ (flip i)]
  · show (i 1).val = pt3Of i * 512 + (i 1).val % 512
    rw [hp]; omega
  · show (i 0).val = (i 0).val % 2048
    omega

/-- The kernel's largest magnitude. -/
def amax (c : Dev nD) : EReal := G4 m c o

/-- The index of a row and a column. -/
abbrev row (r : ℕ) (hr : r < 16384) (l : Fin 2048) : S16384x2048.Idx := fun a => match a with
  | ⟨0, _⟩ => ⟨r, hr⟩
  | ⟨1, _⟩ => l

/-- The largest magnitude: bounded exactly by the bounds of every magnitude in the input. -/
theorem result4_le (c : Dev nD) (z : EReal) : amax m c ≤ z ↔ ∀ i : S16384x2048.Idx, max (X m c i) (-(X m c i)) ≤ z := by
  have hN : cfg0.N = 32 := N_0
  unfold amax
  rw [G4_eq]
  refine (lanes_max_le _ z).trans ?_
  constructor
  · intro H i
    have hi0 : (i 0).val < 16384 := (i 0).isLt
    have hb := (colmax_le m c (fun a => match a with
      | ⟨0, _⟩ => ⟨0, Nat.zero_lt_one⟩
      | ⟨1, _⟩ => ⟨(i 1).val, (i 1).isLt⟩) z 31 last_lt).mp (H _) ((i 0).val / 512) (by omega)
      (fun a => match a with
        | ⟨0, _⟩ => ⟨(i 0).val % 512, Nat.mod_lt _ (by decide)⟩
        | ⟨1, _⟩ => ⟨(i 1).val, (i 1).isLt⟩) rfl
    rwa [xblk_apply m c _ _ i (by show (i 0).val = (i 0).val / 512 * 512 + (i 0).val % 512; omega) rfl] at hb
  · intro H y
    refine (colmax_le m c y z 31 last_lt).mpr fun t ht j hj => ?_
    have hj0 : (j 0).val < 512 := (j 0).isLt
    have hr : t * 512 + (j 0).val < 16384 := by omega
    have e := xblk_apply m c ⟨t, lt_of_le_of_lt ht last_lt⟩ j (row (t * 512 + (j 0).val) hr (j 1)) rfl rfl
    rw [e]
    exact H _

/-- The scale for the next step. -/
theorem result5 (c : Dev nD) (i : S1x1.Idx) : G5 m c i = nextScale (amax m c) := by
  unfold amax
  rw [G5_eq, G4_eq]
  exact next_apply _ i

end Cert.KernelIdeal.Quant

end
-- ==== Proof.ReferenceArrays.lean ====
/- What the reference's arrays hold after its run: its one grid point reads the whole inputs and writes the whole results. -/
module

public import proofs.«01_k».proof.Proof.Gen.ReferenceIdeal.Value
public import Idealize.ShloMosaic.Lib.StableHlo.Run

@[expose] public section

noncomputable section

namespace Cert.ReferenceIdeal.Quant

open Cert.ReferenceIdeal Cert.ReferenceIdeal.Gen Cert.ReferenceIdeal.Value Idealize.ShloMosaic Idealize.ShloMosaic.TcCoe Idealize.SL.Sem

variable {F : FTy → Type} [FloatOps F] [Named F]
variable (m : (ℓ : Loc nD τ sig) → Buf (Elt F) ℓ)

/-- The zero offset of a whole rank-two array. -/
theorem hz : (![0, 0] : Fin 2 → Nat) = fun _ => 0 := funext fun a => by fin_cases a <;> rfl

/-- The input, its leading axes merged into rows. -/
def X (c : Dev nD) : Vec F S16384x2048 .f32 :=
  shapeCast S16384x2048 (m ((c : Thread nD τ).loc main_arg0)) shapeCasts_S4x4096x2048_S16384x2048

/-- The incoming scale, as a one-by-one array. -/
def scale (c : Dev nD) : Vec F S1x1 .f32 :=
  shapeCast S1x1 (m ((c : Thread nD τ).loc main_arg1)) shapeCasts_S1_S1x1

/-- What the scale window reads is the incoming scale. -/
theorem V_s (c : Dev nD) : V m c main_v0 = scale m c := by
  unfold V
  after_results
  rfl

/-- What the input window reads is the merged input. -/
theorem V_x (c : Dev nD) : V m c main_v1 = X m c := by
  unfold V
  after_results
  rfl

/-- Every window of the one point starts at the origin. -/
theorem idx_zero : ∀ t : Fin cfg0.N, (∀ a : Fin 2, win0_0.index t a = 0) ∧ (∀ a : Fin 2, win0_1.index t a = 0)
    ∧ (∀ a : Fin 2, win0_2.index t a = 0) ∧ (∀ a : Fin 2, win0_3.index t a = 0)
    ∧ (∀ a : Fin 2, win0_4.index t a = 0) ∧ (∀ a : Fin 2, win0_5.index t a = 0) :=
  (by decide +kernel : ∀ t : Fin grid0.N, _)

/-- The scale block is the scale. -/
theorem iblk_s (c : Dev nD) (t : Fin cfg0.N) : iblk m c 0 t = scale m c := by
  rw [← V_s]
  have h0 : (fun a => win0_0.index t a * main_v0.ty.shape.size a) = fun _ => 0 :=
    funext fun a => by rw [(idx_zero t).1 a, Nat.zero_mul]
  exact Memref.read_access_unit_zero (Elt F) main_v0 h0 (fun a => by rw [congrFun h0 a]; simp) (V m c main_v0)

/-- The input block is the merged input. -/
theorem iblk_x (c : Dev nD) (t : Fin cfg0.N) : iblk m c 1 t = X m c := by
  rw [← V_x]
  have h0 : (fun a => win0_1.index t a * main_v1.ty.shape.size a) = fun _ => 0 :=
    funext fun a => by rw [(idx_zero t).2.1 a, Nat.zero_mul]
  exact Memref.read_access_unit_zero (Elt F) main_v1 h0 (fun a => by rw [congrFun h0 a]; simp) (V m c main_v1)

/-- The one point. -/
abbrev t0 : Fin cfg0.N := ⟨0, lt_of_lt_of_eq Nat.zero_lt_one N_0.symm⟩

/-- The array of codes, as the one point leaves it. -/
theorem out_2 (c : Dev nD) (t : Fin cfg0.N) : out0_2 (iblk m c 0 t) (iblk m c 1 t) = k0_pay2 (X m c) (scale m c) := by
  rw [iblk_s, iblk_x]
  unfold out0_2
  rw [View.canon_unit_zero hz]
  simp only [View.ld_unit_zero (S := S1x1) hz, View.ld_unit_zero (S := S16384x2048) hz]

/-- The array holds what the one point leaves. -/
theorem whole_2 (c : Dev nD) (v : Vec F S16384x2048 .fp8e4m3) (h : out0_2 (iblk m c 0 t0) (iblk m c 1 t0) = v) :
    (dats m 0 c).arrAt 2 cfg0.N = v := by
  have h0 : (fun a => win0_2.index t0 a * main_v2_0.ty.shape.size a) = fun _ => 0 :=
    funext fun a => by rw [(idx_zero t0).2.2.1 a, Nat.zero_mul]
  have e := (blocks2 m c t0 (flush0_2 t0)).trans ((flushed2 m c t0).trans (congrArg ((cfg0.win 2).cut (grid0.coords t0)) h))
  exact (Memref.read_access_unit_zero (Elt F) main_v2_0 h0 (fun a => by rw [congrFun h0 a]; simp) ((dats m 0 c).arrAt 2 cfg0.N)).symm.trans e

/-- The array of the array of codes after the run. -/
theorem final_2 (c : Dev nD) : (dats m 0 c).arrAt 2 cfg0.N = k0_pay2 (X m c) (scale m c) :=
  whole_2 m c _ (out_2 m c t0)

/-- The transposed array of codes, as the one point leaves it. -/
theorem out_3 (c : Dev nD) (t : Fin cfg0.N) : out0_3 (iblk m c 0 t) (iblk m c 1 t) = k0_pay3 (X m c) (scale m c) := by
  rw [iblk_s, iblk_x]
  unfold out0_3
  rw [View.canon_unit_zero hz]
  simp only [View.ld_unit_zero (S := S1x1) hz, View.ld_unit_zero (S := S16384x2048) hz]

/-- The array holds what the one point leaves. -/
theorem whole_3 (c : Dev nD) (v : Vec F S2048x16384 .fp8e4m3) (h : out0_3 (iblk m c 0 t0) (iblk m c 1 t0) = v) :
    (dats m 0 c).arrAt 3 cfg0.N = v := by
  have h0 : (fun a => win0_3.index t0 a * main_v2_1.ty.shape.size a) = fun _ => 0 :=
    funext fun a => by rw [(idx_zero t0).2.2.2.1 a, Nat.zero_mul]
  have e := (blocks3 m c t0 (flush0_3 t0)).trans ((flushed3 m c t0).trans (congrArg ((cfg0.win 3).cut (grid0.coords t0)) h))
  exact (Memref.read_access_unit_zero (Elt F) main_v2_1 h0 (fun a => by rw [congrFun h0 a]; simp) ((dats m 0 c).arrAt 3 cfg0.N)).symm.trans e

/-- The array of the transposed array of codes after the run. -/
theorem final_3 (c : Dev nD) : (dats m 0 c).arrAt 3 cfg0.N = k0_pay3 (X m c) (scale m c) :=
  whole_3 m c _ (out_3 m c t0)

/-- The largest magnitude, as the one point leaves it. -/
theorem out_4 (c : Dev nD) (t : Fin cfg0.N) : out0_4 (iblk m c 0 t) (iblk m c 1 t) = k0_pay4 (k0_pay1 (X m c)) := by
  rw [iblk_s, iblk_x]
  unfold out0_4 k0_pay6
  rw [View.canon_unit_zero hz]
  simp only [View.ld_unit_zero (S := S1x1) hz, View.ld_unit_zero (S := S16384x2048) hz]

/-- The array holds what the one point leaves. -/
theorem whole_4 (c : Dev nD) (v : Vec F S1x1 .f32) (h : out0_4 (iblk m c 0 t0) (iblk m c 1 t0) = v) :
    (dats m 0 c).arrAt 4 cfg0.N = v := by
  have h0 : (fun a => win0_4.index t0 a * main_v2_2.ty.shape.size a) = fun _ => 0 :=
    funext fun a => by rw [(idx_zero t0).2.2.2.2.1 a, Nat.zero_mul]
  have e := (blocks4 m c t0 (flush0_4 t0)).trans ((flushed4 m c t0).trans (congrArg ((cfg0.win 4).cut (grid0.coords t0)) h))
  exact (Memref.read_access_unit_zero (Elt F) main_v2_2 h0 (fun a => by rw [congrFun h0 a]; simp) ((dats m 0 c).arrAt 4 cfg0.N)).symm.trans e

/-- The array of the largest magnitude after the run. -/
theorem final_4 (c : Dev nD) : (dats m 0 c).arrAt 4 cfg0.N = k0_pay4 (k0_pay1 (X m c)) :=
  whole_4 m c _ (out_4 m c t0)

/-- The scale for the next step, as the one point leaves it. -/
theorem out_5 (c : Dev nD) (t : Fin cfg0.N) : out0_5 (iblk m c 0 t) (iblk m c 1 t) = k0_pay5 (k0_pay1 (X m c)) := by
  rw [iblk_s, iblk_x]
  unfold out0_5 k0_pay6
  rw [View.canon_unit_zero hz]
  simp only [View.ld_unit_zero (S := S1x1) hz, View.ld_unit_zero (S := S16384x2048) hz]

/-- The array holds what the one point leaves. -/
theorem whole_5 (c : Dev nD) (v : Vec F S1x1 .f32) (h : out0_5 (iblk m c 0 t0) (iblk m c 1 t0) = v) :
    (dats m 0 c).arrAt 5 cfg0.N = v := by
  have h0 : (fun a => win0_5.index t0 a * main_v2_3.ty.shape.size a) = fun _ => 0 :=
    funext fun a => by rw [(idx_zero t0).2.2.2.2.2 a, Nat.zero_mul]
  have e := (blocks5 m c t0 (flush0_5 t0)).trans ((flushed5 m c t0).trans (congrArg ((cfg0.win 5).cut (grid0.coords t0)) h))
  exact (Memref.read_access_unit_zero (Elt F) main_v2_3 h0 (fun a => by rw [congrFun h0 a]; simp) ((dats m 0 c).arrAt 5 cfg0.N)).symm.trans e

/-- The array of the scale for the next step after the run. -/
theorem final_5 (c : Dev nD) : (dats m 0 c).arrAt 5 cfg0.N = k0_pay5 (k0_pay1 (X m c)) :=
  whole_5 m c _ (out_5 m c t0)

end Cert.ReferenceIdeal.Quant

end
-- ==== Proof.ReferenceValues.lean ====
/- What the reference computes over the extended reals: the same quantiser, with its exponents and powers of two taken by the
   logarithm and the exponential. -/
module

public import proofs.«01_k».proof.Proof.ReferenceArrays
public import proofs.«01_k».proof.Proof.Exponent
public import proofs.«01_k».proof.Proof.Max

@[expose] public section

noncomputable section

namespace Cert.ReferenceIdeal.Quant

open Cert.ReferenceIdeal Cert.ReferenceIdeal.Gen Idealize.ShloMosaic Idealize.ShloMosaic.TcCoe Idealize.SL.Sem
open Cert.Quant

/-- The one index of a one-by-one array. -/
abbrev o : S1x1.Idx := fun a => match a with
  | ⟨0, _⟩ => ⟨0, Nat.zero_lt_one⟩
  | ⟨1, _⟩ => ⟨0, Nat.zero_lt_one⟩

/-- Every index of a one-by-one array is that one. -/
theorem eq_o (i : S1x1.Idx) : i = o := by
  funext a
  apply Fin.ext
  match a with
  | ⟨0, _⟩ => exact Nat.lt_one_iff.mp (i 0).isLt
  | ⟨1, _⟩ => exact Nat.lt_one_iff.mp (i 1).isLt

/-- The constant by which the reference turns a logarithm to base two. -/
theorem ln2 : (Named.named κ "ln2" 0x3F317218#32 : Ideal .f32) = ((Real.log 2 : ℝ) : EReal) := rfl

/-- The inverse scale the reference multiplies by. -/
def inverse (s : EReal) : EReal := refPow2 (Ideal.ofBits .f32 0x3F800000#32 - refExponent (max s (-s)))

/-- The scale for the next step, of the largest magnitude. -/
def nextScale (a : EReal) : EReal :=
  refPow2 (Scalar.select (Ideal.cmp .oeq a (Ideal.ofBits .f32 0x00000000#32)) (Ideal.ofBits .f32 0x00000000#32)
    (refExponent (max (a * Ideal.ofBits .f32 0x3B124925#32) (-(a * Ideal.ofBits .f32 0x3B124925#32)))))

/-- The reference's exponent, on a one-by-one array. -/
def vexponent (mag : FVec Ideal S1x1 .f32) : FVec Ideal S1x1 .f32 := fun i => refExponent (mag i)

/-- The reference's operations for it are `vexponent`. -/
theorem fold_exponent (mag : FVec Ideal S1x1 .f32) :
    select (andi (cmpf .oge mag (broadcast S1x1 (Scalar.ofBits .f32 0x00800000#32)))
        (cmpf .olt mag (broadcast S1x1 (Scalar.ofBits .f32 0x7F800000#32))))
      (addf (floor (divf (log mag) (broadcast S1x1 (Named.named κ "ln2" 0x3F317218#32))))
        (broadcast S1x1 (Scalar.ofBits .f32 0x3F800000#32)))
      (broadcast S1x1 (Scalar.ofBits .f32 0x00000000#32)) = vexponent mag := rfl

/-- The reference's power of two, on a one-by-one array. -/
def vpow2 (n : FVec Ideal S1x1 .f32) : FVec Ideal S1x1 .f32 := fun i => refPow2 (n i)

/-- The reference's operations for it are `vpow2`. -/
theorem fold_pow2 (n : FVec Ideal S1x1 .f32) :
    select (cmpf .olt n (broadcast S1x1 (Scalar.ofBits .f32 0xC2FC0000#32))) (broadcast S1x1 (Scalar.ofBits .f32 0x00000000#32))
      (select (cmpf .ogt n (broadcast S1x1 (Scalar.ofBits .f32 0x42FE0000#32))) (broadcast S1x1 (Scalar.ofBits .f32 0x7F800000#32))
        (exp2 n)) = vpow2 n := rfl

/-- An element of the codes. -/
theorem codes_apply (x : Vec Ideal S16384x2048 .f32) (s : Vec Ideal S1x1 .f32) (i : S16384x2048.Idx) :
    k0_pay2 x s i = quantise (inverse (s o)) (x i) := by
  unfold k0_pay2 k0_pay1
  dsimp only
  rw [fold_exponent, fold_pow2, shapeCast_self, shapeCast_self]
  refine congrArg (fun v : EReal => quantise v (x i)) ((broadcastTo_apply _ broadcasts_S1x1_S16384x2048 i o fun a => ?_).trans rfl)
  match a with
  | ⟨0, _⟩ => rfl
  | ⟨1, _⟩ => rfl

/-- An element of the transposed codes. -/
theorem codesT_apply (x : Vec Ideal S16384x2048 .f32) (s : Vec Ideal S1x1 .f32) (i : S2048x16384.Idx) (k : S16384x2048.Idx)
    (h0 : (k 0).val = (i 1).val) (h1 : (k 1).val = (i 0).val) :
    k0_pay3 x s i = quantise (inverse (s o)) (x k) :=
  (transpose_apply _ _ transposes_S16384x2048_p1_0_S2048x16384 i k fun b => by
    match b with
    | ⟨0, _⟩ => exact h1
    | ⟨1, _⟩ => exact h0).trans (codes_apply x s k)

/-- The reference's largest magnitude. -/
def amax (x : Vec Ideal S16384x2048 .f32) : EReal := k0_pay4 (k0_pay1 x) o

/-- The index without its leading coordinate. -/
abbrev tail (i : S1x16384x2048.Idx) : S16384x2048.Idx := fun a => match a with
  | ⟨0, _⟩ => ⟨(i 1).val, (i 1).isLt⟩
  | ⟨1, _⟩ => ⟨(i 2).val, (i 2).isLt⟩

/-- The index with a leading coordinate. -/
abbrev lead (i : S16384x2048.Idx) : S1x16384x2048.Idx := fun a => match a with
  | ⟨0, _⟩ => ⟨0, Nat.zero_lt_one⟩
  | ⟨1, _⟩ => ⟨(i 0).val, (i 0).isLt⟩
  | ⟨2, _⟩ => ⟨(i 1).val, (i 1).isLt⟩

/-- The array with a leading axis of one, at an index. -/
theorem lead_apply (v : S16384x2048.Idx → EReal) (i : S1x16384x2048.Idx) (k : S16384x2048.Idx)
    (h0 : (k 0).val = (i 1).val) (h1 : (k 1).val = (i 2).val) :
    shapeCast S1x16384x2048 v shapeCasts_S16384x2048_S1x16384x2048 i = v k :=
  shapeCast_apply v _ i k (by
    have h : (i 0).val < 1 := (i 0).isLt
    rw [Shape.rowMajor_val_two, Shape.rowMajor_val_three]
    show (k 0).val * 2048 + (k 1).val = ((i 0).val * 16384 + (i 1).val) * 2048 + (i 2).val
    omega)

/-- The maximum over the two trailing axes, bounded exactly by the bounds of all elements. -/
theorem max_le (v : S16384x2048.Idx → EReal) (j : S1.Idx) (z : EReal) :
    (multiReduction (F := Ideal) .maximumf [1, 2] S1 (φ := .f32) (shapeCast S1x16384x2048 v shapeCasts_S16384x2048_S1x16384x2048)
      0xFF800000#32 reduces_S1x16384x2048_S1 (.inl rfl) rfl j : EReal) ≤ z ↔ ∀ i, v i ≤ z := by
  refine (reduce_max_le _ _ reduces_S1x16384x2048_S1 (.inl rfl) rfl j z).trans ⟨fun H i => ?_, fun H i _ => ?_⟩
  · rw [← lead_apply v (lead i) i rfl rfl]
    refine H _ (funext fun b => Fin.ext ?_)
    match b with
    | ⟨0, _⟩ => exact (Nat.lt_one_iff.mp (Fin.isLt _)).trans (Nat.lt_one_iff.mp (j 0).isLt).symm
  · rw [lead_apply v i (tail i) rfl rfl]
    exact H _

/-- Taking the single element of a one-element array and spreading it over one place keeps what is known of it. -/
theorem single_le (w : S1.Idx → EReal) (z : EReal) (p : Prop) (h : ∀ j, w j ≤ z ↔ p) :
    broadcast S1x1 (extractAt ![0, 0, 0] (shapeCast S1x1x1 w shapeCasts_S1_S1x1x1) inpos_S1x1x1_p0_0_0) o ≤ z ↔ p :=
  h _

/-- The maximum over the whole of an array. -/
def whole (u : FVec Ideal S16384x2048 .f32) : FVec Ideal S1 .f32 :=
  multiReduction .maximumf [1, 2] S1 (shapeCast S1x16384x2048 u shapeCasts_S16384x2048_S1x16384x2048) 0xFF800000#32
    reduces_S1x16384x2048_S1 (.inl rfl) rfl

/-- The reference's largest magnitude is the maximum over the whole of the magnitudes. -/
theorem pay4_whole (v : FVec Ideal S16384x2048 .bf16) :
    k0_pay4 v = broadcast S1x1 (extractAt ![0, 0, 0]
      (shapeCast S1x1x1 (whole (extf .f32 (absf v) bitsLt_bf16_f32)) shapeCasts_S1_S1x1x1) inpos_S1x1x1_p0_0_0) := by
  unfold k0_pay4 whole
  rfl

/-- That maximum, spread over one place, is bounded exactly by the bounds of every element. -/
theorem whole_le (u : FVec Ideal S16384x2048 .f32) (z : EReal) :
    (broadcast S1x1 (extractAt ![0, 0, 0] (shapeCast S1x1x1 (whole u) shapeCasts_S1_S1x1x1) inpos_S1x1x1_p0_0_0) o : EReal) ≤ z ↔
      ∀ i, (u i : EReal) ≤ z :=
  single_le _ z _ fun j => max_le u j z

/-- The largest magnitude of an array: bounded exactly by the bounds of every magnitude in it. -/
theorem pay4_le (v : FVec Ideal S16384x2048 .bf16) (z : EReal) :
    (k0_pay4 v o : EReal) ≤ z ↔ ∀ i, (extf .f32 (absf v) bitsLt_bf16_f32 i : EReal) ≤ z := by
  rw [pay4_whole v]
  exact whole_le _ z

/-- The widening of an element's magnitude. -/
theorem mag_apply (x : Vec Ideal S16384x2048 .f32) (i : S16384x2048.Idx) :
    extf .f32 (absf (k0_pay1 x)) bitsLt_bf16_f32 i = max (x i) (-(x i)) := by
  unfold k0_pay1
  rw [shapeCast_self]
  rfl

/-- The largest magnitude: bounded exactly by the bounds of every magnitude in the input. -/
theorem amax_le (x : Vec Ideal S16384x2048 .f32) (z : EReal) : amax x ≤ z ↔ ∀ i, max (x i) (-(x i)) ≤ z := by
  unfold amax
  rw [pay4_le (k0_pay1 x) z]
  simp only [mag_apply]

/-- The scale for the next step, of a one-by-one array holding the largest magnitude. -/
def vnext (a : FVec Ideal S1x1 .f32) : FVec Ideal S1x1 .f32 :=
  vpow2 (select (cmpf .oeq a (broadcast S1x1 (Scalar.ofBits .f32 0x00000000#32))) (broadcast S1x1 (Scalar.ofBits .f32 0x00000000#32))
    (vexponent (absf (mulf a (broadcast S1x1 (Scalar.ofBits .f32 0x3B124925#32))))))

/-- The reference's operations for it are `vnext`. -/
theorem pay5_eq (v : FVec Ideal S16384x2048 .bf16) : k0_pay5 v = vnext (k0_pay4 v) := by
  unfold k0_pay5 vnext
  generalize k0_pay4 v = a
  rw [← fold_exponent, ← fold_pow2]

/-- Its one element. -/
theorem vnext_apply (a : FVec Ideal S1x1 .f32) : vnext a o = nextScale (a o) := rfl

/-- The scale for the next step. -/
theorem next_apply (x : Vec Ideal S16384x2048 .f32) (i : S1x1.Idx) : k0_pay5 (k0_pay1 x) i = nextScale (amax x) := by
  rw [eq_o i, pay5_eq, vnext_apply]
  rfl

end Cert.ReferenceIdeal.Quant

end
-- ==== Proof.Equation.lean ====
/- The equation: over the extended reals the kernel and the reference leave the same four arrays, from equal arguments. -/
module

public import proofs.«01_k».proof.Proof.KernelResult
public import proofs.«01_k».proof.Proof.ReferenceValues

@[expose] public section

noncomputable section

namespace Cert.Equation

open Idealize.ShloMosaic Idealize.ShloMosaic.TcCoe Idealize.SL.Sem Cert.Quant

/-- The two inverse scales are one: finding the exponent in the bits of the scale, or by its logarithm. -/
theorem inverse_same (s : EReal) : Cert.KernelIdeal.Quant.inverse s = Cert.ReferenceIdeal.Quant.inverse s :=
  inverse_eq _ (mag_nonneg s)

/-- The two scales for the next step are one, of one largest magnitude. -/
theorem next_same (a : EReal) : Cert.KernelIdeal.Quant.nextScale a = Cert.ReferenceIdeal.Quant.nextScale a :=
  next_eq a _ (mag_nonneg _)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Equal inputs are equal as matrices. -/
theorem input_same
    (h : m' ((c : Thread Cert.ReferenceIdeal.nD Cert.ReferenceIdeal.τ).loc Cert.ReferenceIdeal.main_arg0)
      = m ((c : Thread Cert.KernelIdeal.nD Cert.KernelIdeal.τ).loc Cert.KernelIdeal.main_arg0)) :
    Cert.ReferenceIdeal.Quant.X m' c = Cert.KernelIdeal.Quant.X m c := by
  unfold Cert.ReferenceIdeal.Quant.X Cert.KernelIdeal.Quant.X
  rw [h]

/-- Equal incoming scales are equal as one-by-one arrays. -/
theorem scale_same
    (h : m' ((c : Thread Cert.ReferenceIdeal.nD Cert.ReferenceIdeal.τ).loc Cert.ReferenceIdeal.main_arg1)
      = m ((c : Thread Cert.KernelIdeal.nD Cert.KernelIdeal.τ).loc Cert.KernelIdeal.main_arg1)) :
    Cert.ReferenceIdeal.Quant.scale m' c = Cert.KernelIdeal.Quant.scale m c := by
  unfold Cert.ReferenceIdeal.Quant.scale Cert.KernelIdeal.Quant.scale
  rw [h]

/-- The codes agree. -/
theorem codes_same (hx : Cert.ReferenceIdeal.Quant.X m' c = Cert.KernelIdeal.Quant.X m c)
    (hs : Cert.ReferenceIdeal.Quant.scale m' c = Cert.KernelIdeal.Quant.scale m c) :
    (Cert.ReferenceIdeal.Gen.dats m' 0 c).arrAt 2 Cert.ReferenceIdeal.cfg0.N = Cert.KernelIdeal.Value.G2 m c := by
  rw [Cert.ReferenceIdeal.Quant.final_2, hx, hs]
  funext i
  rw [Cert.KernelIdeal.Quant.result2, inverse_same]
  exact Cert.ReferenceIdeal.Quant.codes_apply _ _ i

/-- The transposed codes agree. -/
theorem codesT_same (hx : Cert.ReferenceIdeal.Quant.X m' c = Cert.KernelIdeal.Quant.X m c)
    (hs : Cert.ReferenceIdeal.Quant.scale m' c = Cert.KernelIdeal.Quant.scale m c) :
    (Cert.ReferenceIdeal.Gen.dats m' 0 c).arrAt 3 Cert.ReferenceIdeal.cfg0.N = Cert.KernelIdeal.Value.G3 m c := by
  rw [Cert.ReferenceIdeal.Quant.final_3, hx, hs]
  funext i
  rw [Cert.KernelIdeal.Quant.result3, inverse_same]
  exact Cert.ReferenceIdeal.Quant.codesT_apply _ _ i (Cert.KernelIdeal.Quant.flip i) rfl rfl

/-- The largest magnitudes are one number: both have the same upper bounds. -/
theorem amax_same : Cert.ReferenceIdeal.Quant.amax (Cert.KernelIdeal.Quant.X m c) = Cert.KernelIdeal.Quant.amax m c :=
  eq_of_forall_ge_iff fun z =>
    (Cert.ReferenceIdeal.Quant.amax_le _ z).trans (Cert.KernelIdeal.Quant.result4_le m c z).symm

/-- The arrays of the largest magnitude agree. -/
theorem max_same (hx : Cert.ReferenceIdeal.Quant.X m' c = Cert.KernelIdeal.Quant.X m c) :
    (Cert.ReferenceIdeal.Gen.dats m' 0 c).arrAt 4 Cert.ReferenceIdeal.cfg0.N = Cert.KernelIdeal.Value.G4 m c := by
  rw [Cert.ReferenceIdeal.Quant.final_4, hx]
  funext i
  rw [Cert.ReferenceIdeal.Quant.eq_o i]
  exact amax_same m c

/-- The arrays of the next scale agree. -/
theorem scale_next_same (hx : Cert.ReferenceIdeal.Quant.X m' c = Cert.KernelIdeal.Quant.X m c) :
    (Cert.ReferenceIdeal.Gen.dats m' 0 c).arrAt 5 Cert.ReferenceIdeal.cfg0.N = Cert.KernelIdeal.Value.G5 m c := by
  rw [Cert.ReferenceIdeal.Quant.final_5, hx]
  funext i
  rw [Cert.KernelIdeal.Quant.result5, ← amax_same, next_same]
  exact Cert.ReferenceIdeal.Quant.next_apply _ i

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel and the reference, over the extended reals and from equal arguments, leave the same four arrays: those the
    kernel's run names, which the reference's run reaches by the equation. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨Cert.KernelIdeal.Value.G2 m, Cert.KernelIdeal.Value.G3 m, Cert.KernelIdeal.Value.G4 m, Cert.KernelIdeal.Value.G5 m,
    Cert.KernelIdeal.Value.run m g, ?_⟩
  refine (θ_run _ _ _).mono (fun r h c => ?_) (Cert.ReferenceIdeal.Value.run_blocks m' g')
  have hx := Cert.Equation.input_same m m' c (hagree c).1
  have hs := Cert.Equation.scale_same m m' c (hagree c).2
  obtain ⟨h2, h3, h4, h5, ha, hb⟩ := h c
  exact ⟨h2.trans (Cert.Equation.codes_same m m' c hx hs), h3.trans (Cert.Equation.codesT_same m m' c hx hs),
    h4.trans (Cert.Equation.max_same m m' c hx), h5.trans (Cert.Equation.scale_next_same m m' c hx), ha, hb⟩

/-- Everything claimed: the three programs run without fault and keep their arguments, the ideal program is the kernel's own
    text, and kernel and reference compute the same four arrays over the extended reals. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => Cert.ReferenceIdeal.Gen.frame m g, trivial, algebraic⟩

end Cert.Proof

end
